-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v2) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hReference : Cert.Reference.Facts) (hKernelIdeal : Cert.KernelIdeal.Facts) (hReferenceIdeal : Cert.ReferenceIdeal.Facts),
    quiescent_Kernel (hKernel := hKernel)
    ∧ quiescent_Reference (hReference := hReference)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S16384x128 : Shape := ⟨2, ![16384, 128]⟩
abbrev S32768x128 : Shape := ⟨2, ![32768, 128]⟩
abbrev S_ : Shape := ⟨0, ![]⟩

abbrev nBuf : Space → Nat
  | .hbm => 3
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S32768x128, .f32⟩
  | .hbm, ⟨2, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 1 → Bool
  | ⟨0, _⟩ => true
  | _ => false

abbrev sig : RefSig :=
  ofTc nBuf bufTy 0 1 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

abbrev grid0 : Pipeline.Grid := .none
-- ==== Reference.lean ====
abbrev S16384x128 : Shape := ⟨2, ![16384, 128]⟩
abbrev S32768x128 : Shape := ⟨2, ![32768, 128]⟩
abbrev S49152x128 : Shape := ⟨2, ![49152, 128]⟩

abbrev nBuf : Space → Nat
  | .hbm => 5
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S32768x128, .f32⟩
  | .hbm, ⟨2, _⟩ => ⟨S49152x128, .f32⟩
  | .hbm, ⟨3, _⟩ => ⟨S32768x128, .f32⟩
  | .hbm, ⟨4, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Copy.lean ====
/-
  What the kernel computes: one transfer copies the whole batch `x` from its array in HBM into the result's
  array, and the body waits for it.  The proof holds for any float values; the printed program and its ideal
  reading are two instances of it.
-/
module

public import proofs.«01_k».proof.Defs
public import proofs.«01_k».proof.Proof.Gen.Kernel.Launch
public import proofs.«01_k».proof.Proof.Gen.Kernel.Points
public import proofs.«01_k».proof.Proof.Gen.Kernel.Skeleton
public import Idealize.ShloMosaic.Lib.Pipeline.Routed
public import Idealize.ShloMosaic.Lib.Tactic

@[expose] public section

noncomputable section

namespace Cert.Proof.Copy

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat UC)

variable {F : FTy → Type} [FloatOps F]

local notation "𝕄" => MT nD τ sig Unit (Elt F) ℕ (UC sig nD τ) ℕ

variable (m : (ℓ : Loc nD τ sig) → Buf (Elt F) ℓ) (ρ : Dev nD → PrngReg)

/-- The one semaphore that the kernel allocates: its transfer signals it and the body waits on it. -/
abbrev osem : Fin 1 → SemLoc sig := fun _ => .dma cc0_scratch0.sem

theorem ownSemFacts : Pipeline.OwnSemFacts (cfg0.spec) osem := by decide

/-- The two arrays that the body touches: the batch and the result. -/
abbrev R : Finset (Ref sig .tc) := {main_arg0, main_v0}

/-- The arrays when the kernel is entered: as launched. -/
abbrev V (c : Dev nD) (b : Ref sig .tc) : Buf (Elt F) ((c : Thread nD τ).loc b) := m ((c : Thread nD τ).loc b)

/-- The arrays when the kernel has returned: the result holds the batch, every other array what it held. -/
def Y (c : Dev nD) (b : Ref sig .tc) : Buf (Elt F) ((c : Thread nD τ).loc b) :=
  if h : b = main_v0 then h ▸ (m ((c : Thread nD τ).loc main_arg0) : Buf (Elt F) ((c : Thread nD τ).loc main_v0))
  else m ((c : Thread nD τ).loc b)

omit [FloatOps F] in
theorem Y_result (c : Dev nD) : Y m c main_v0 = m ((c : Thread nD τ).loc main_arg0) := rfl
omit [FloatOps F] in
theorem Y_batch (c : Dev nD) : Y m c main_arg0 = m ((c : Thread nD τ).loc main_arg0) := rfl

omit [FloatOps F] in
/-- The two arrays held at contents `W`, one after the other. -/
theorem routed_eq (c : Dev nD) (W : (b : Ref sig .tc) → Buf (Elt F) ((c : Thread nD τ).loc b)) :
    (Pipeline.routed R c W : sProp 𝕄)
      = iprop((((c : Thread nD τ).loc main_arg0) ↦{fullShare} W main_arg0) ∗ (((c : Thread nD τ).loc main_v0) ↦{fullShare} W main_v0)) := by
  unfold Pipeline.routed
  rw [bigSep_insert (by decide), bigSep_singleton]
  rfl

omit [FloatOps F] in
/-- The kernel's semaphore at zero. -/
theorem ownSems0_eq (c : Dev nD) :
    (Pipeline.ownSems0 (Ix := Unit) (Name := ℕ) (U := UC sig nD τ) (Lvl := ℕ) (Val := Elt F) (τ := τ) osem c : sProp 𝕄)
      = semVal ((c : Thread nD τ), SemLoc.dma cc0_scratch0.sem) 0 :=
  Pipeline.ownSems0_eq_of_list c osem [0] (by decide) (by decide)

/-- The batch's array held whole at contents `x`, and the result's at `o`. -/
abbrev batchAt (c : Dev nD) (x : Buf (Elt F) ((c : Thread nD τ).loc main_arg0)) : sProp 𝕄 :=
  (Memref.whole main_arg0).view.loc (c : Thread nD τ) ↦{fullShare} x
@[inherit_doc batchAt]
abbrev resultAt (c : Dev nD) (o : Buf (Elt F) ((c : Thread nD τ).loc main_v0)) : sProp 𝕄 :=
  (Memref.whole main_v0).view.loc (c : Thread nD τ) ↦{fullShare} o

/-- The body, from both arrays held whole: it ends with the batch as it was and the result equal to it, and with
    its semaphore back at zero; what is then to hold (`Q`) may use that. -/
theorem body (c : Dev nD) (t : Fin cfg0.N) (x : Buf (Elt F) ((c : Thread nD τ).loc main_arg0))
    (o : Buf (Elt F) ((c : Thread nD τ).loc main_v0)) (W : Waits sig Unit) (Q : PUnit → sProp 𝕄) :
    (iprop(batchAt c x ∗ resultAt c o
        ∗ semVal ((c : Thread nD τ), SemLoc.dma cc0_scratch0.sem) 0 ∗ owes (c : Thread nD τ) 0 W
        ∗ (iprop(batchAt c x ∗ resultAt c (x : Buf (Elt F) ((c : Thread nD τ).loc main_v0))
            ∗ semVal ((c : Thread nD τ), SemLoc.dma cc0_scratch0.sem) 0 ∗ ∃ W, owes (c : Thread nD τ) 0 W) -∗ Q ⟨⟩)) : sProp 𝕄)
      ⊢ wp frame (wpE (defs₀ (F := F)) Variants.none (c : Thread nD τ) none) Set.univ (bodyAt0 t) Q := by
  iintro ⟨Hx, Ho, Hs, HO, Hk⟩
  unfold bodyAt0 cc0__copy_kernel
  sl_exec!
  sl_step
  -- the transfer moves the batch read whole, and the result's view is its whole array
  rw [View.write_whole_univ]
  iapply Hk
  isplitl [Hx]; · iexact Hx
  isplitl [Ho]; · iexact Ho
  isplitl [Hs]; · iexact Hs
  iexists _; iexact HO

/-- What the body is given and gives back beside its scoped rest: the two arrays at contents `W`, its semaphore at
    zero, and the core's generator register. -/
abbrev Held (c : Dev nD) (W : (b : Ref sig .tc) → Buf (Elt F) ((c : Thread nD τ).loc b)) : sProp 𝕄 :=
  Pipeline.Ends (cfg0.spec) osem R c W

/-- The proof data of a launch that stages no window: the invariant is the arrays as launched before the one grid
    point, and with the result equal to the batch after it. -/
def dats (_ : Fin 1) (c : Dev nD) : Dat τ (Elt F) Unit ℕ (UC sig nD τ) ℕ cfg0 c where
  A w := w.elim0
  after w := w.elim0
  Φ t := if t = 0 then Held c (V m c) else Held c (Y m c)
  q _ := fullShare
  owed _ := 0

/-- The obligation at the one grid point: the invariant taken apart, `body` applied, its post put together. -/
theorem obligation (c : Dev nD) : Pipeline.BodyObligationLoose (dats m 0 c) (defs₀ (F := F)) Variants.none () Set.univ := fun t => by
  obtain rfl := fin_N0 t
  rw [show (Finset.univ : Finset (Fin cfg0.W)) = ∅ from rfl, bigSep_empty, bigSep_empty]
  rw [show (dats m 0 c).Φ (t0_0.castSucc) = Held c (V m c) from rfl, show (dats m 0 c).Φ (t0_0.succ) = Held c (Y m c) from rfl]
  unfold Held Pipeline.Ends Dat.owesAt Pipeline.owesWithin
  rw [routed_eq, routed_eq, ownSems0_eq, scopedRest0_eq]
  rw [show (dats m 0 c).owed (t0_0.castSucc) = 0 from rfl, show (dats m 0 c).owed (t0_0.succ) = 0 from rfl]
  iintro ⟨⟨⟨Hx, Ho⟩, Hs, He, Hp⟩, ⟨%W, %hW, HO⟩, -⟩
  iapply (body c t0_0 (V m c main_arg0) (V m c main_v0) W)
  isplitl [Hx]; · iexact Hx
  isplitl [Ho]; · iexact Ho
  isplitl [Hs]; · iexact Hs
  isplitl [HO]; · iexact HO
  iintro ⟨Hx, Ho, Hs, ⟨%W', HO⟩⟩
  isplitl [Hx Ho Hs He Hp]
  · isplitl [Hx Ho]
    · isplitl [Hx]; · iexact Hx
      iexact Ho
    isplitl [Hs]; · iexact Hs
    isplitl [He]; · iexact He
    iexact Hp
  isplitl [HO]
  · iexists W'; isplitr; · ipureintro; exact fun _ _ => Or.inl trivial
    iexact HO
  iempintro

/-- @main is the one launch: at its entry the arrays are as launched. -/
theorem main_run : Pipeline.HMain (Ix := Unit) (Name := ℕ) (U := UC sig nD τ) (Lvl := ℕ) cfgs 0 defs₀ Variants.none m
    (main (F := F)) (V m) :=
  Pipeline.hmain_region cfgs 0 defs₀ Variants.none m main fun c => (main_chain c).trans rfl

-- the launch theorem's implicit arguments are found by unifying its conclusion with this one, which takes unfolding
-- plain definitions in a metavariable's type
set_option backward.isDefEq.respectTransparency.types false in
/-- The run: from any memory with zero counters every weakly fair execution terminates, the result is the batch, both
    arguments are as launched, and every semaphore counter is at zero. -/
theorem run : θ_run (defs (F := F)) (onTc (τ := τ) (main (F := F))) ⟨m, fun _ => 0, ρ⟩ (fun r =>
    (∀ c : Dev nD, r.2.mem ((c.tc : Thread nD τ).loc main_v0) = m ((c.tc : Thread nD τ).loc main_arg0)
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  Pipeline.θ_run_frame_routed cfgs (dats m) 0 launch0 ownSemFacts defs₀ Variants.none m ρ main
    (obligation m) (fun _ w => w.elim0) (fun _ _ => rfl) (V m) (main_run m) (fun _ w => w.elim0)
    R (by decide) (Y m) (fun _ => .rfl) (fun _ => .rfl) _
    (fun r h => ⟨fun c => ⟨((h.1 c).2.1 main_v0 (by decide)).trans (Y_result m c),
      ((h.1 c).2.1 main_arg0 (by decide)).trans (Y_batch m c), (h.1 c).2.2 main_arg1 (by decide)⟩, h.2⟩)

end Cert.Proof.Copy

end
-- ==== Proof.Rows.lean ====
/-
  What the reference computes: the batch put before the queue, cut to the queue's capacity and then to the number of
  rows it now holds, is the batch.
-/
module

public import proofs.«01_k».proof.Defs
public import proofs.«01_k».proof.Proof.Gen.Reference
public import Idealize.ShloMosaic.Lib.Pointwise
public import Idealize.ShloMosaic.Lib.Pipeline.Value

@[expose] public section

namespace Cert.Proof.Rows

open Idealize.ShloMosaic Cert.Reference

/-- The first 16384 of the first 32768 rows of the two arrays one above the other are the upper array: row `i` below
    16384 of the stack is row `i` of the upper one. -/
theorem top_rows {α : Type} (x : S16384x128.Idx → α) (q : S32768x128.Idx → α)
    (hc : Shape.Concatenates [S16384x128, S32768x128] S49152x128 0)
    (h₁ : S49152x128.Slices ![0, 0] S32768x128) (h₂ : S32768x128.Slices ![0, 0] S16384x128) :
    extractStridedSlice S16384x128 ![0, 0]
      (extractStridedSlice S32768x128 ![0, 0] (concatenate S49152x128 0 [⟨S16384x128, x⟩, ⟨S32768x128, q⟩] hc) h₁) h₂ = x := by
  funext j
  -- the row's place in the cut stack, then in the whole one
  have hr : ∀ n, 16384 ≤ n → (j 0).val < n := fun n hn => Nat.lt_of_lt_of_le (show (j 0).val < 16384 from (j 0).isLt) hn
  let k₁ : S32768x128.Idx := fun a => match a with | ⟨0, _⟩ => ⟨(j 0).val, hr 32768 (by decide)⟩ | ⟨1, _⟩ => j 1
  let k₀ : S49152x128.Idx := fun a => match a with | ⟨0, _⟩ => ⟨(j 0).val, hr 49152 (by decide)⟩ | ⟨1, _⟩ => j 1
  rw [extractStridedSlice_apply ![0, 0] _ h₂ j k₁ fun a => by match a with | ⟨0, _⟩ | ⟨1, _⟩ => exact (Nat.zero_add _).symm,
    extractStridedSlice_apply ![0, 0] _ h₁ k₁ k₀ fun a => by match a with | ⟨0, _⟩ | ⟨1, _⟩ => exact (Nat.zero_add _).symm]
  exact concatenate_pair_apply_left (t := S49152x128) (s₁ := S16384x128) (s₂ := S32768x128) 0 x q hc k₀ rfl j
    fun b => by match b with | ⟨0, _⟩ | ⟨1, _⟩ => rfl

end Cert.Proof.Rows
-- ==== Proof.lean ====
/-
  The proof of `Cert.Claim`.  One run is proved of the kernel (`Copy.run`: the result is the batch) and one equation of
  the reference's term (`Rows.top_rows`: it is the batch too), both for any float values; every claim is read off them,
  the bit-exact ones at machine words and the ideal ones at the extended reals.
-/
module

public import proofs.«01_k».proof.Defs
public import proofs.«01_k».proof.Proof.Copy
public import proofs.«01_k».proof.Proof.Rows
public import proofs.«01_k».proof.Proof.Gen.Kernel
public import proofs.«01_k».proof.Proof.Gen.Reference
public import proofs.«01_k».proof.Proof.Gen.KernelIdeal
public import proofs.«01_k».proof.Proof.Gen.ReferenceIdeal
public import proofs.«01_k».proof.Proof.Gen.Reference.Run
public import proofs.«01_k».proof.Proof.Gen.ReferenceIdeal.Run
public import Idealize.ShloMosaic.Lib.Claim
public import Idealize.ShloMosaic.Lib.Quiescent

@[expose] public section

noncomputable section

namespace Cert.Proof

open Idealize.ShloMosaic Idealize.ShloMosaic.TcCoe Idealize.SL.Sem

/-- The ideal program is the kernel's own text read at the extended reals, so its run is `Copy.run` there. -/
theorem run_ideal (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r =>
      (∀ c : Dev Cert.KernelIdeal.nD,
        r.2.mem ((c.tc : Thread Cert.KernelIdeal.nD Cert.KernelIdeal.τ).loc Cert.KernelIdeal.main_v0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  Copy.run (F := Ideal) m ρ

/-- The kernel terminates, leaves its arguments and every counter as they were. -/
theorem frame_kernel : Cert.quiescent_Kernel := fun m g _ =>
  (θ_run _ _ _).mono (fun _ h => ⟨fun c => (h.1 c).2, h.2⟩) (Copy.run m g)

/-- The same of the ideal program. -/
theorem frame_kernel_ideal : Cert.quiescent_KernelIdeal := fun m g _ =>
  (θ_run _ _ _).mono (fun _ h => ⟨fun c => (h.1 c).2, h.2⟩) (run_ideal m g)

/-- The reference terminates and leaves its arguments as they were; it declares no semaphore, so no counter moves. -/
theorem frame_reference : Cert.quiescent_Reference := fun m g _ =>
  (θ_run _ _ _).mono (fun r h => ⟨fun c => (h c).2, sem_eq_zero_of_no_sems (by decide) r.2⟩)
    (Cert.Reference.Value.run m g)

/-- The same of the reference over the extended reals. -/
theorem frame_reference_ideal : Cert.quiescent_ReferenceIdeal := fun m g _ =>
  (θ_run _ _ _).mono (fun r h => ⟨fun c => (h c).2, sem_eq_zero_of_no_sems (by decide) r.2⟩)
    (Cert.ReferenceIdeal.Value.run m g)

/-- Kernel and reference return the same array over the extended reals. -/
theorem algebraic : Cert.algebraic_KernelIdeal_ReferenceIdeal := by
  pair_intro
  · run_from run_ideal m g
  · hlo_run
    exact Rows.top_rows _ _ _ _ _

/-- Kernel and reference return the same words. -/
theorem bitexact : Cert.bitexact_Kernel_Reference := by
  pair_intro
  · run_from Copy.run m g
  · hlo_run
    exact Rows.top_rows _ _ _ _ _

theorem claim : Cert.Claim :=
  ⟨Cert.Kernel.Gen.facts, Cert.Reference.Gen.facts, Cert.KernelIdeal.Gen.facts, Cert.ReferenceIdeal.Gen.facts,
    frame_kernel, frame_reference, frame_kernel_ideal, frame_reference_ideal, trivial, algebraic, bitexact⟩

end Cert.Proof

end
